-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "mask" .f32 0x7149F2CA#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4 : Shape := ⟨2, ![1024, 4]⟩
abbrev S64x4 : Shape := ⟨2, ![64, 4]⟩
abbrev S64 : Shape := ⟨1, ![64]⟩
abbrev S64x64 : Shape := ⟨2, ![64, 64]⟩
abbrev S2x64 : Shape := ⟨2, ![2, 64]⟩
abbrev S2 : Shape := ⟨1, ![2]⟩
abbrev S100000x64 : Shape := ⟨2, ![100000, 64]⟩
abbrev S100000 : Shape := ⟨1, ![100000]⟩
abbrev S4x64 : Shape := ⟨2, ![4, 64]⟩
abbrev S1024x64 : Shape := ⟨2, ![1024, 64]⟩
abbrev S1x64 : Shape := ⟨2, ![1, 64]⟩
abbrev S_ : Shape := ⟨0, ![]⟩
abbrev S64x2 : Shape := ⟨2, ![64, 2]⟩
abbrev S1024x2 : Shape := ⟨2, ![1024, 2]⟩
abbrev S1x2 : Shape := ⟨2, ![1, 2]⟩
abbrev S1024 : Shape := ⟨1, ![1024]⟩
abbrev S1024x1 : Shape := ⟨2, ![1024, 1]⟩
abbrev S100352x64 : Shape := ⟨2, ![100352, 64]⟩
abbrev S1024x100352 : Shape := ⟨2, ![1024, 100352]⟩
abbrev S2048x64 : Shape := ⟨2, ![2048, 64]⟩
abbrev S1024x2048 : Shape := ⟨2, ![1024, 2048]⟩
abbrev S2048 : Shape := ⟨1, ![2048]⟩
abbrev S1x2048 : Shape := ⟨2, ![1, 2048]⟩
abbrev S1024x50 : Shape := ⟨2, ![1024, 50]⟩
abbrev S1024x50x1 : Shape := ⟨3, ![1024, 50, 1]⟩
abbrev S1 : Shape := ⟨1, ![1]⟩
abbrev S1x1x1 : Shape := ⟨3, ![1, 1, 1]⟩
abbrev S1024x50x64 : Shape := ⟨3, ![1024, 50, 64]⟩
abbrev S1024x1x64 : Shape := ⟨3, ![1024, 1, 64]⟩

abbrev nBuf : Space → Nat
  | .hbm => 123
  | .vmem => 6
  | .smem => 0
  | _ => 0

abbrev bufTy : (tb : Table) → Fin (tcTables nBuf tb) → BufTy
  | .hbm, ⟨0, _⟩ => ⟨S1024x4, .f32⟩
  | .hbm, ⟨1, _⟩ => ⟨S64x4, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x64, .f32⟩
  | .hbm, ⟨8, _⟩ => ⟨S2, .f32⟩
  | .hbm, ⟨9, _⟩ => ⟨S64x64, .f32⟩
  | .hbm, ⟨10, _⟩ => ⟨S64, .f32⟩
  | .hbm, ⟨11, _⟩ => ⟨S100000x64, .f32⟩
  | .hbm, ⟨12, _⟩ => ⟨S100000, .f32⟩
  | .hbm, ⟨13, _⟩ => ⟨S4x64, .f32⟩
  | .hbm, ⟨14, _⟩ => ⟨S1024x64, .f32⟩
  | .hbm, ⟨15, _⟩ => ⟨S1x64, .f32⟩
  | .hbm, ⟨16, _⟩ => ⟨S1024x64, .f32⟩
  | .hbm, ⟨17, _⟩ => ⟨S1024x64, .f32⟩
  | .hbm, ⟨18, _⟩ => ⟨S_, .f32⟩
  | .hbm, ⟨19, _⟩ => ⟨S1024x64, .f32⟩
  | .hbm, ⟨20, _⟩ => ⟨S1024x64, .f32⟩
  | .hbm, ⟨21, _⟩ => ⟨S64x64, .f32⟩
  | .hbm, ⟨22, _⟩ => ⟨S1024x64, .f32⟩
  | .hbm, ⟨23, _⟩ => ⟨S1x64, .f32⟩
  | .hbm, ⟨24, _⟩ => ⟨S1024x64, .f32⟩
  | .hbm, ⟨25, _⟩ => ⟨S1024x64, .f32⟩
  | .hbm, ⟨26, _⟩ => ⟨S64x64, .f32⟩
  | .hbm, ⟨27, _⟩ => ⟨S1024x64, .f32⟩
  | .hbm, ⟨28, _⟩ => ⟨S1x64, .f32⟩
  | .hbm, ⟨29, _⟩ => ⟨S1024x64, .f32⟩
  | .hbm, ⟨30, _⟩ => ⟨S1024x64, .f32⟩
  | .hbm, ⟨31, _⟩ => ⟨S_, .f32⟩
  | .hbm, ⟨32, _⟩ => ⟨S1024x64, .f32⟩
  | .hbm, ⟨33, _⟩ => ⟨S1024x64, .f32⟩
  | .hbm, ⟨34, _⟩ => ⟨S64x2, .f32⟩
  | .hbm, ⟨35, _⟩ => ⟨S1024x2, .f32⟩
  | .hbm, ⟨36, _⟩ => ⟨S1x2, .f32⟩
  | .hbm, ⟨37, _⟩ => ⟨S1024x2, .f32⟩
  | .hbm, ⟨38, _⟩ => ⟨S1024x2, .f32⟩
  | .hbm, ⟨39, _⟩ => ⟨S64x64, .f32⟩
  | .hbm, ⟨40, _⟩ => ⟨S1024x64, .f32⟩
  | .hbm, ⟨41, _⟩ => ⟨S1x64, .f32⟩
  | .hbm, ⟨42, _⟩ => ⟨S1024x64, .f32⟩
  | .hbm, ⟨43, _⟩ => ⟨S1024x64, .f32⟩
  | .hbm, ⟨44, _⟩ => ⟨S1024x64, .f32⟩
  | .hbm, ⟨45, _⟩ => ⟨S_, .f32⟩
  | .hbm, ⟨46, _⟩ => ⟨S1024, .f32⟩
  | .hbm, ⟨47, _⟩ => ⟨S1024x1, .f32⟩
  | .hbm, ⟨48, _⟩ => ⟨S_, .i32⟩
  | .hbm, ⟨49, _⟩ => ⟨S_, .f32⟩
  | .hbm, ⟨50, _⟩ => ⟨S100352x64, .f32⟩
  | .hbm, ⟨51, _⟩ => ⟨S1024x100352, .f32⟩
  | .hbm, ⟨52, _⟩ => ⟨S1024x100352, .f32⟩
  | .hbm, ⟨53, _⟩ => ⟨S1024x50, .f32⟩
  | .hbm, ⟨54, _⟩ => ⟨S1024x50, .i32⟩
  | .hbm, ⟨55, _⟩ => ⟨S_, .i32⟩
  | .hbm, ⟨56, _⟩ => ⟨S1024x50, .i32⟩
  | .hbm, ⟨57, _⟩ => ⟨S1024x50, .i1⟩
  | .hbm, ⟨58, _⟩ => ⟨S_, .i32⟩
  | .hbm, ⟨59, _⟩ => ⟨S1024x50, .i32⟩
  | .hbm, ⟨60, _⟩ => ⟨S1024x50, .i32⟩
  | .hbm, ⟨61, _⟩ => ⟨S1024x50, .i32⟩
  | .hbm, ⟨62, _⟩ => ⟨S1024x50x1, .i32⟩
  | .hbm, ⟨63, _⟩ => ⟨S1, .i32⟩
  | .hbm, ⟨64, _⟩ => ⟨S_, .i32⟩
  | .hbm, ⟨65, _⟩ => ⟨S1024x50x1, .i32⟩
  | .hbm, ⟨66, _⟩ => ⟨S1024x50x1, .i1⟩
  | .hbm, ⟨67, _⟩ => ⟨S1x1x1, .i32⟩
  | .hbm, ⟨68, _⟩ => ⟨S1024x50x1, .i32⟩
  | .hbm, ⟨69, _⟩ => ⟨S1024x50x1, .i1⟩
  | .hbm, ⟨70, _⟩ => ⟨S1024x50x1, .i1⟩
  | .hbm, ⟨71, _⟩ => ⟨S_, .i1⟩
  | .hbm, ⟨72, _⟩ => ⟨S1024x50, .i1⟩
  | .hbm, ⟨73, _⟩ => ⟨S1024x50x64, .f32⟩
  | .hbm, ⟨74, _⟩ => ⟨S1024x50x64, .i1⟩
  | .hbm, ⟨75, _⟩ => ⟨S_, .f32⟩
  | .hbm, ⟨76, _⟩ => ⟨S1024x50x64, .f32⟩
  | .hbm, ⟨77, _⟩ => ⟨S1024x50x64, .f32⟩
  | .hbm, ⟨78, _⟩ => ⟨S_, .i32⟩
  | .hbm, ⟨79, _⟩ => ⟨S1024x50, .i32⟩
  | .hbm, ⟨80, _⟩ => ⟨S1024x50, .i1⟩
  | .hbm, ⟨81, _⟩ => ⟨S_, .i32⟩
  | .hbm, ⟨82, _⟩ => ⟨S1024x50, .i32⟩
  | .hbm, ⟨83, _⟩ => ⟨S1024x50, .i32⟩
  | .hbm, ⟨84, _⟩ => ⟨S1024x50, .i32⟩
  | .hbm, ⟨85, _⟩ => ⟨S1024x50x1, .i32⟩
  | .hbm, ⟨86, _⟩ => ⟨S1, .i32⟩
  | .hbm, ⟨87, _⟩ => ⟨S_, .i32⟩
  | .hbm, ⟨88, _⟩ => ⟨S1024x50x1, .i32⟩
  | .hbm, ⟨89, _⟩ => ⟨S1024x50x1, .i1⟩
  | .hbm, ⟨90, _⟩ => ⟨S1x1x1, .i32⟩
  | .hbm, ⟨91, _⟩ => ⟨S1024x50x1, .i32⟩
  | .hbm, ⟨92, _⟩ => ⟨S1024x50x1, .i1⟩
  | .hbm, ⟨93, _⟩ => ⟨S1024x50x1, .i1⟩
  | .hbm, ⟨94, _⟩ => ⟨S_, .i1⟩
  | .hbm, ⟨95, _⟩ => ⟨S1024x50, .i1⟩
  | .hbm, ⟨96, _⟩ => ⟨S1024x50, .f32⟩
  | .hbm, ⟨97, _⟩ => ⟨S_, .f32⟩
  | .hbm, ⟨98, _⟩ => ⟨S1024x50, .f32⟩
  | .hbm, ⟨99, _⟩ => ⟨S1024x50, .f32⟩
  | .hbm, ⟨100, _⟩ => ⟨S1024x1x64, .f32⟩
  | .hbm, ⟨101, _⟩ => ⟨S1024x50x64, .f32⟩
  | .hbm, ⟨102, _⟩ => ⟨S1024x50x64, .f32⟩
  | .hbm, ⟨103, _⟩ => ⟨S1024x50x64, .f32⟩
  | .hbm, ⟨104, _⟩ => ⟨S_, .f32⟩
  | .hbm, ⟨105, _⟩ => ⟨S1024x50, .f32⟩
  | .hbm, ⟨106, _⟩ => ⟨S_, .f32⟩
  | .hbm, ⟨107, _⟩ => ⟨S1024x50, .f32⟩
  | .hbm, ⟨108, _⟩ => ⟨S1024x50, .f32⟩
  | .hbm, ⟨109, _⟩ => ⟨S1024x50, .f32⟩
  | .hbm, ⟨110, _⟩ => ⟨S_, .f32⟩
  | .hbm, ⟨111, _⟩ => ⟨S1024x50, .f32⟩
  | .hbm, ⟨112, _⟩ => ⟨S1024x50, .f32⟩
  | .hbm, ⟨113, _⟩ => ⟨S_, .f32⟩
  | .hbm, ⟨114, _⟩ => ⟨S1024x50, .f32⟩
  | .hbm, ⟨115, _⟩ => ⟨S1024x50, .f32⟩
  | .hbm, ⟨116, _⟩ => ⟨S_, .f32⟩
  | .hbm, ⟨117, _⟩ => ⟨S_, .f32⟩
  | .hbm, ⟨118, _⟩ => ⟨S1024x50, .f32⟩
  | .hbm, ⟨119, _⟩ => ⟨S1024x50, .f32⟩
  | .hbm, ⟨120, _⟩ => ⟨S1024x50, .f32⟩
  | .hbm, ⟨121, _⟩ => ⟨S_, .f32⟩
  | .hbm, ⟨122, _⟩ => ⟨S1024, .f32⟩
  | .local _ .vmem, ⟨0, _⟩ => ⟨S1024x64, .f32⟩
  | .local _ .vmem, ⟨1, _⟩ => ⟨S1024x1, .f32⟩
  | .local _ .vmem, ⟨2, _⟩ => ⟨S2048x64, .f32⟩
  | .local _ .vmem, ⟨3, _⟩ => ⟨S2048x64, .f32⟩
  | .local _ .vmem, ⟨4, _⟩ => ⟨S1024x2048, .f32⟩
  | .local _ .vmem, ⟨5, _⟩ => ⟨S1024x2048, .f32⟩
  | _, _ => ⟨S1024x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call1_cst : Ref sig .tc := ⟨.hbm, 31, rfl⟩
abbrev main_call1_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_c : Ref sig .tc := ⟨.hbm, 48, rfl⟩
abbrev main_call2_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_values : Ref sig .tc := ⟨.hbm, 53, rfl⟩
abbrev main_indices : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_call3_c_0 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_v5 : Ref sig .tc := ⟨.hbm, 62, rfl⟩
abbrev main_call3_c_1 : Ref sig .tc := ⟨.hbm, 63, rfl⟩
abbrev main_call3_c_2 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_c_3 : Ref sig .tc := ⟨.hbm, 71, rfl⟩
abbrev main_call3_v12 : Ref sig .tc := ⟨.hbm, 72, rfl⟩
abbrev main_call3_v13 : Ref sig .tc := ⟨.hbm, 73, rfl⟩
abbrev main_call3_v14 : Ref sig .tc := ⟨.hbm, 74, rfl⟩
abbrev main_call3_cst : Ref sig .tc := ⟨.hbm, 75, rfl⟩
abbrev main_call3_v15 : Ref sig .tc := ⟨.hbm, 76, rfl⟩
abbrev main_v33 : Ref sig .tc := ⟨.hbm, 77, rfl⟩
abbrev main_call4_c : Ref sig .tc := ⟨.hbm, 78, rfl⟩
abbrev main_call4_v0 : Ref sig .tc := ⟨.hbm, 79, rfl⟩
abbrev main_call4_v1 : Ref sig .tc := ⟨.hbm, 80, rfl⟩
abbrev main_call4_c_0 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_call4_v5 : Ref sig .tc := ⟨.hbm, 85, rfl⟩
abbrev main_call4_c_1 : Ref sig .tc := ⟨.hbm, 86, rfl⟩
abbrev main_call4_c_2 : Ref sig .tc := ⟨.hbm, 87, rfl⟩
abbrev main_call4_v6 : Ref sig .tc := ⟨.hbm, 88, rfl⟩
abbrev main_call4_v7 : Ref sig .tc := ⟨.hbm, 89, rfl⟩
abbrev main_call4_v8 : Ref sig .tc := ⟨.hbm, 90, rfl⟩
abbrev main_call4_v9 : Ref sig .tc := ⟨.hbm, 91, rfl⟩
abbrev main_call4_v10 : Ref sig .tc := ⟨.hbm, 92, rfl⟩
abbrev main_call4_v11 : Ref sig .tc := ⟨.hbm, 93, rfl⟩
abbrev main_call4_c_3 : Ref sig .tc := ⟨.hbm, 94, rfl⟩
abbrev main_call4_v12 : Ref sig .tc := ⟨.hbm, 95, rfl⟩
abbrev main_call4_v13 : Ref sig .tc := ⟨.hbm, 96, rfl⟩
abbrev main_call4_cst : Ref sig .tc := ⟨.hbm, 97, rfl⟩
abbrev main_call4_v14 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_cst_0 : Ref sig .tc := ⟨.hbm, 104, rfl⟩
abbrev main_v39 : Ref sig .tc := ⟨.hbm, 105, rfl⟩
abbrev main_cst_1 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_cst_2 : Ref sig .tc := ⟨.hbm, 110, rfl⟩
abbrev main_v43 : Ref sig .tc := ⟨.hbm, 111, rfl⟩
abbrev main_v44 : Ref sig .tc := ⟨.hbm, 112, rfl⟩
abbrev main_cst_3 : Ref sig .tc := ⟨.hbm, 113, rfl⟩
abbrev main_v45 : Ref sig .tc := ⟨.hbm, 114, rfl⟩
abbrev main_v46 : Ref sig .tc := ⟨.hbm, 115, rfl⟩
abbrev main_cst_4 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_cst_5 : Ref sig .tc := ⟨.hbm, 121, rfl⟩
abbrev main_v51 : Ref sig .tc := ⟨.hbm, 122, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "mask" => some ⊤
  | _ => none
-- ==== ReferenceIdeal.lean ====
abbrev S1024x4 : Shape := ⟨2, ![1024, 4]⟩
abbrev S64x4 : Shape := ⟨2, ![64, 4]⟩
abbrev S64 : Shape := ⟨1, ![64]⟩
abbrev S64x64 : Shape := ⟨2, ![64, 64]⟩
abbrev S2x64 : Shape := ⟨2, ![2, 64]⟩
abbrev S2 : Shape := ⟨1, ![2]⟩
abbrev S100000x64 : Shape := ⟨2, ![100000, 64]⟩
abbrev S100000 : Shape := ⟨1, ![100000]⟩
abbrev S4x64 : Shape := ⟨2, ![4, 64]⟩
abbrev S1024x64 : Shape := ⟨2, ![1024, 64]⟩
abbrev S1x64 : Shape := ⟨2, ![1, 64]⟩
abbrev S_ : Shape := ⟨0, ![]⟩
abbrev S64x2 : Shape := ⟨2, ![64, 2]⟩
abbrev S1024x2 : Shape := ⟨2, ![1024, 2]⟩
abbrev S1x2 : Shape := ⟨2, ![1, 2]⟩
abbrev S1024 : Shape := ⟨1, ![1024]⟩
abbrev S1024x1 : Shape := ⟨2, ![1024, 1]⟩
abbrev S1x100000 : Shape := ⟨2, ![1, 100000]⟩
abbrev S1024x100000 : Shape := ⟨2, ![1024, 100000]⟩
abbrev S64x100000 : Shape := ⟨2, ![64, 100000]⟩
abbrev S1024x50 : Shape := ⟨2, ![1024, 50]⟩
abbrev S1024x50x1 : Shape := ⟨3, ![1024, 50, 1]⟩
abbrev S1 : Shape := ⟨1, ![1]⟩
abbrev S1x1x1 : Shape := ⟨3, ![1, 1, 1]⟩
abbrev S1024x50x64 : Shape := ⟨3, ![1024, 50, 64]⟩
abbrev S1024x1x64 : Shape := ⟨3, ![1024, 1, 64]⟩

abbrev nBuf : Space → Nat
  | .hbm => 132
  | .vmem => 0
  | .smem => 0
  | _ => 0

abbrev hbmTy0_0 (i : Nat) : BufTy := match i % 128 with
  | 0 => ⟨S1024x4, .f32⟩
  | 1 => ⟨S64x4, .f32⟩
  | 2 => ⟨S64, .f32⟩
  | 3 => ⟨S64x64, .f32⟩
  | 4 => ⟨S64, .f32⟩
  | 5 => ⟨S64x64, .f32⟩
  | 6 => ⟨S64, .f32⟩
  | 7 => ⟨S2x64, .f32⟩
  | 8 => ⟨S2, .f32⟩
  | 9 => ⟨S64x64, .f32⟩
  | 10 => ⟨S64, .f32⟩
  | 11 => ⟨S100000x64, .f32⟩
  | 12 => ⟨S100000, .f32⟩
  | 13 => ⟨S4x64, .f32⟩
  | 14 => ⟨S1024x64, .f32⟩
  | 15 => ⟨S1x64, .f32⟩
  | 16 => ⟨S1024x64, .f32⟩
  | 17 => ⟨S1024x64, .f32⟩
  | 18 => ⟨S_, .f32⟩
  | 19 => ⟨S1024x64, .f32⟩
  | 20 => ⟨S1024x64, .f32⟩
  | 21 => ⟨S64x64, .f32⟩
  | 22 => ⟨S1024x64, .f32⟩
  | 23 => ⟨S1x64, .f32⟩
  | 24 => ⟨S1024x64, .f32⟩
  | 25 => ⟨S1024x64, .f32⟩
  | 26 => ⟨S64x64, .f32⟩
  | 27 => ⟨S1024x64, .f32⟩
  | 28 => ⟨S1x64, .f32⟩
  | 29 => ⟨S1024x64, .f32⟩
  | 30 => ⟨S1024x64, .f32⟩
  | 31 => ⟨S_, .f32⟩
  | 32 => ⟨S1024x64, .f32⟩
  | 33 => ⟨S1024x64, .f32⟩
  | 34 => ⟨S64x2, .f32⟩
  | 35 => ⟨S1024x2, .f32⟩
  | 36 => ⟨S1x2, .f32⟩
  | 37 => ⟨S1024x2, .f32⟩
  | 38 => ⟨S1024x2, .f32⟩
  | 39 => ⟨S64x64, .f32⟩
  | 40 => ⟨S1024x64, .f32⟩
  | 41 => ⟨S1x64, .f32⟩
  | 42 => ⟨S1024x64, .f32⟩
  | 43 => ⟨S1024x64, .f32⟩
  | 44 => ⟨S1024x64, .f32⟩
  | 45 => ⟨S_, .f32⟩
  | 46 => ⟨S1024, .f32⟩
  | 47 => ⟨S1024x1, .f32⟩
  | 48 => ⟨S100000x64, .f32⟩
  | 49 => ⟨S_, .f32⟩
  | 50 => ⟨S100000, .f32⟩
  | 51 => ⟨S1x100000, .f32⟩
  | 52 => ⟨S1024x100000, .f32⟩
  | 53 => ⟨S1024x100000, .f32⟩
  | 54 => ⟨S1024x100000, .f32⟩
  | 55 => ⟨S64x100000, .f32⟩
  | 56 => ⟨S1024x100000, .f32⟩
  | 57 => ⟨S_, .f32⟩
  | 58 => ⟨S1024x100000, .f32⟩
  | 59 => ⟨S1024x100000, .f32⟩
  | 60 => ⟨S1024x100000, .f32⟩
  | 61 => ⟨S1024x100000, .f32⟩
  | 62 => ⟨S1024x50, .f32⟩
  | 63 => ⟨S1024x50, .i32⟩
  | 64 => ⟨S_, .i32⟩
  | 65 => ⟨S1024x50, .i32⟩
  | 66 => ⟨S1024x50, .i1⟩
  | 67 => ⟨S_, .i32⟩
  | 68 => ⟨S1024x50, .i32⟩
  | 69 => ⟨S1024x50, .i32⟩
  | 70 => ⟨S1024x50, .i32⟩
  | 71 => ⟨S1024x50x1, .i32⟩
  | 72 => ⟨S1, .i32⟩
  | 73 => ⟨S_, .i32⟩
  | 74 => ⟨S1024x50x1, .i32⟩
  | 75 => ⟨S1024x50x1, .i1⟩
  | 76 => ⟨S1x1x1, .i32⟩
  | 77 => ⟨S1024x50x1, .i32⟩
  | 78 => ⟨S1024x50x1, .i1⟩
  | 79 => ⟨S1024x50x1, .i1⟩
  | 80 => ⟨S_, .i1⟩
  | 81 => ⟨S1024x50, .i1⟩
  | 82 => ⟨S1024x50x64, .f32⟩
  | 83 => ⟨S1024x50x64, .i1⟩
  | 84 => ⟨S_, .f32⟩
  | 85 => ⟨S1024x50x64, .f32⟩
  | 86 => ⟨S1024x50x64, .f32⟩
  | 87 => ⟨S_, .i32⟩
  | 88 => ⟨S1024x50, .i32⟩
  | 89 => ⟨S1024x50, .i1⟩
  | 90 => ⟨S_, .i32⟩
  | 91 => ⟨S1024x50, .i32⟩
  | 92 => ⟨S1024x50, .i32⟩
  | 93 => ⟨S1024x50, .i32⟩
  | 94 => ⟨S1024x50x1, .i32⟩
  | 95 => ⟨S1, .i32⟩
  | 96 => ⟨S_, .i32⟩
  | 97 => ⟨S1024x50x1, .i32⟩
  | 98 => ⟨S1024x50x1, .i1⟩
  | 99 => ⟨S1x1x1, .i32⟩
  | 100 => ⟨S1024x50x1, .i32⟩
  | 101 => ⟨S1024x50x1, .i1⟩
  | 102 => ⟨S1024x50x1, .i1⟩
  | 103 => ⟨S_, .i1⟩
  | 104 => ⟨S1024x50, .i1⟩
  | 105 => ⟨S1024x50, .f32⟩
  | 106 => ⟨S_, .f32⟩
  | 107 => ⟨S1024x50, .f32⟩
  | 108 => ⟨S1024x50, .f32⟩
  | 109 => ⟨S1024x1x64, .f32⟩
  | 110 => ⟨S1024x50x64, .f32⟩
  | 111 => ⟨S1024x50x64, .f32⟩
  | 112 => ⟨S1024x50x64, .f32⟩
  | 113 => ⟨S_, .f32⟩
  | 114 => ⟨S1024x50, .f32⟩
  | 115 => ⟨S_, .f32⟩
  | 116 => ⟨S1024x50, .f32⟩
  | 117 => ⟨S1024x50, .f32⟩
  | 118 => ⟨S1024x50, .f32⟩
  | 119 => ⟨S_, .f32⟩
  | 120 => ⟨S1024x50, .f32⟩
  | 121 => ⟨S1024x50, .f32⟩
  | 122 => ⟨S_, .f32⟩
  | 123 => ⟨S1024x50, .f32⟩
  | 124 => ⟨S1024x50, .f32⟩
  | 125 => ⟨S_, .f32⟩
  | 126 => ⟨S_, .f32⟩
  | 127 => ⟨S1024x50, .f32⟩
  | _ => ⟨S1024x4, .f32⟩

abbrev hbmTy0_1 (i : Nat) : BufTy := match i % 128 with
  | 0 => ⟨S1024x50, .f32⟩
  | 1 => ⟨S1024x50, .f32⟩
  | 2 => ⟨S_, .f32⟩
  | 3 => ⟨S1024, .f32⟩
  | _ => ⟨S1024x4, .f32⟩

abbrev hbmTy (i : Nat) : BufTy := match i / 128 with
  | 0 => hbmTy0_0 i
  | 1 => hbmTy0_1 i
  | _ => ⟨S1024x4, .f32⟩

abbrev bufTy : (tb : Table) → Fin (tcTables nBuf tb) → BufTy
  | .hbm, ⟨i, _⟩ => hbmTy i
  | _, _ => ⟨S1024x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call1_cst : Ref sig .tc := ⟨.hbm, 31, rfl⟩
abbrev main_call1_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_1 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_values : Ref sig .tc := ⟨.hbm, 62, rfl⟩
abbrev main_indices : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v42 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_cst : Ref sig .tc := ⟨.hbm, 106, rfl⟩
abbrev main_call3_v14 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_cst_2 : Ref sig .tc := ⟨.hbm, 113, rfl⟩
abbrev main_v48 : Ref sig .tc := ⟨.hbm, 114, rfl⟩
abbrev main_cst_3 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_cst_4 : Ref sig .tc := ⟨.hbm, 119, rfl⟩
abbrev main_v52 : Ref sig .tc := ⟨.hbm, 120, rfl⟩
abbrev main_v53 : Ref sig .tc := ⟨.hbm, 121, rfl⟩
abbrev main_cst_5 : Ref sig .tc := ⟨.hbm, 122, rfl⟩
abbrev main_v54 : Ref sig .tc := ⟨.hbm, 123, rfl⟩
abbrev main_v55 : Ref sig .tc := ⟨.hbm, 124, rfl⟩
abbrev main_cst_6 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_cst_7 : Ref sig .tc := ⟨.hbm, 130, rfl⟩
abbrev main_v60 : Ref sig .tc := ⟨.hbm, 131, rfl⟩

abbrev nD : Nat := 1
abbrev τ : Topo := Topo.v7x

variable {F : FTy → Type} [FloatOps F]
-- ==== Proof.Host.lean ====
/-
  The operations around the launch, read: what each list of them leaves in the buffers the result depends on, as a function
  of what it found. The functions are named here once; the reference's own terms are the same functions
  (`reference_action`, `reference_value`).
-/
module

public import proofs.«01_k».proof.Proof.Gen.KernelIdeal.Frame
public import proofs.«01_k».proof.Proof.Gen.ReferenceIdeal.Run

@[expose] public section

set_option maxRecDepth 8192

noncomputable section

open Idealize.ShloMosaic Idealize.ShloMosaic.TcCoe Idealize.SL.Sem Idealize.ShloMosaic.StableHlo

namespace Cert.Host

open Cert.KernelIdeal Cert.KernelIdeal.Gen

variable {F : FTy → Type} [FloatOps F]

/-! ## The functions -/

/-- A row vector added to every row. -/
def bias64 (b : FVec F S64 .f32) : FVec F S1024x64 .f32 :=
  broadcastInDim S1024x64 ![0, 1] bcast_S1x64_S1024x64_0_1 (broadcastInDim S1x64 ![1] bcast_S64_S1x64_1 b)

/-- A dense layer with 64 inputs and 64 outputs. -/
def dense (x : FVec F S1024x64 .f32) (w : FVec F S64x64 .f32) (b : FVec F S64 .f32) : FVec F S1024x64 .f32 :=
  addf (Host.dotGeneral dot_S1024x64_S64x64_S1024x64_1_0_0_1_n_n none x (transpose S64x64 [1, 0] w transposes_S64x64_S64x64_1_0)) (bias64 b)

/-- The rectifier. -/
def relu (x : FVec F S1024x64 .f32) : FVec F S1024x64 .f32 :=
  maximumf x (broadcastInDim S1024x64 ![] bcast_S_S1024x64 (constant S_ .f32 0x00000000#32))

/-- The first layer before its rectifier. -/
def first (x : FVec F S1024x4 .f32) (w : FVec F S64x4 .f32) (b : FVec F S64 .f32) : FVec F S1024x64 .f32 :=
  addf (Host.dotGeneral dot_S1024x4_S4x64_S1024x64_1_0_0_1_n_n none x (transpose S4x64 [1, 0] w transposes_S64x4_S4x64_1_0)) (bias64 b)

/-- The head with two outputs. -/
def head (h : FVec F S1024x64 .f32) (w : FVec F S2x64 .f32) (b : FVec F S2 .f32) : FVec F S1024x2 .f32 :=
  addf (Host.dotGeneral dot_S1024x64_S64x2_S1024x2_1_0_0_1_n_n none h (transpose S64x2 [1, 0] w transposes_S2x64_S64x2_1_0))
    (broadcastInDim S1024x2 ![0, 1] bcast_S1x2_S1024x2_0_1 (broadcastInDim S1x2 ![1] bcast_S2_S1x2_1 b))

/-- Each row's sum of squares, as a column. -/
def sumSq (e : FVec F S1024x64 .f32) : FVec F S1024x1 .f32 :=
  broadcastInDim S1024x1 ![0] bcast_S1024_S1024x1_0 (Host.reduceAdd (mulf e e) (constant S_ .f32 0x00000000#32) reducesTo_S1024x64_S1024_d1 h_S_)

/-- The keys followed by 352 rows of zeros. -/
def padKeys (k : FVec F S100000x64 .f32) : FVec F S100352x64 .f32 :=
  pad S100352x64 ![0, 0] ![352, 0] ![0, 0] k (sitofp .f32 (constantI S_ 32 0#32)) pads_S100000x64_S100352x64_03520_000 h_S_

/-- Indices made non-negative, one per looked-up row. -/
def wrap (i : IVec S1024x50 32) : IVec S1024x50x1 32 :=
  broadcastInDim S1024x50x1 ![0, 1] bcast_S1024x50_S1024x50x1_0_1
    (select (cmpi .slt i (broadcastInDim S1024x50 ![] bcast_S_S1024x50 (constantI S_ 32 0#32)))
      (addi i (broadcastInDim S1024x50 ![] bcast_S_S1024x50 (constantI S_ 32 100000#32))) i)

/-- Whether each index names a row. -/
def inRange (i : IVec S1024x50x1 32) : IVec S1024x50 1 :=
  Host.reduce IntOp.andi (andi (cmpi .sge i (broadcastInDim S1024x50x1 ![] bcast_S_S1024x50x1 (constantI S_ 32 0#32)))
      (cmpi .sle i (broadcastInDim S1024x50x1 ![0, 1, 2] bcast_S1x1x1_S1024x50x1_0_1_2 (broadcastInDim S1x1x1 ![2] bcast_S1_S1x1x1_2 (constantI S1 32 99999#32)))))
    (constantI S_ 1 1#1) reducesTo_S1024x50x1_S1024x50_d2 h_S_

/-- The keys at the given indices. -/
def takeKeys (k : FVec F S100000x64 .f32) (i : IVec S1024x50 32) : FVec F S1024x50x64 .f32 :=
  select (broadcastInDim S1024x50x64 ![0, 1] bcast_S1024x50_S1024x50x64_0_1 (inRange (wrap i)))
    (Host.gather gather_S100000x64_S1024x50x1_S1024x50x64_2_0_n_n_0_2_164 k (wrap i))
    (broadcastInDim S1024x50x64 ![] bcast_S_S1024x50x64 (constant S_ .f32 0x7FC00000#32))

/-- The values at the given indices. -/
def takeVals (v : FVec F S100000 .f32) (i : IVec S1024x50 32) : FVec F S1024x50 .f32 :=
  select (inRange (wrap i)) (Host.gather gather_S100000_S1024x50x1_S1024x50_n_0_n_n_0_2_1 v (wrap i))
    (broadcastInDim S1024x50 ![] bcast_S_S1024x50 (constant S_ .f32 0x7FC00000#32))

/-- Each query minus its neighbours. -/
def away (e : FVec F S1024x64 .f32) (n : FVec F S1024x50x64 .f32) : FVec F S1024x50x64 .f32 :=
  subf (broadcastInDim S1024x50x64 ![0, 1, 2] bcast_S1024x1x64_S1024x50x64_0_1_2 (broadcastInDim S1024x1x64 ![0, 2] bcast_S1024x64_S1024x1x64_0_2 e)) n

/-- The neighbours' weights before they are normalised, from those differences. -/
def weigh (d : FVec F S1024x50x64 .f32) : FVec F S1024x50 .f32 :=
  Host.divf (broadcastInDim S1024x50 ![] bcast_S_S1024x50 (constant S_ .f32 0x3F800000#32))
    (addf (Host.sqrt (maximumf (Host.reduceAdd (mulf d d) (constant S_ .f32 0x00000000#32) reducesTo_S1024x50x64_S1024x50_d2 h_S_)
        (broadcastInDim S1024x50 ![] bcast_S_S1024x50 (constant S_ .f32 0x2B8CBCCC#32))))
      (broadcastInDim S1024x50 ![] bcast_S_S1024x50 (constant S_ .f32 0x3A83126F#32)))

/-- The values weighted by the normalised weights, and summed. -/
def blend (w v : FVec F S1024x50 .f32) : FVec F S1024 .f32 :=
  Host.reduceAdd (mulf v (Host.divf w (broadcastInDim S1024x50 ![] bcast_S_S1024x50
      (Host.reduceAdd w (constant S_ .f32 0x00000000#32) reducesTo_S1024x50_S_d0_1 h_S_))))
    (constant S_ .f32 0x00000000#32) reducesTo_S1024x50_S1024_d1 h_S_

/-- The 50 columns with the largest entries in each row of the padded matrix. -/
def best (d : FVec F S1024x100352 .f32) : IVec S1024x50 32 :=
  (Host.topK S1024x50 1 (FloatOps.cmpfTotal .gt) (Host.negf d) sliceFits_S1024x100352_S1024x50).2

/-- The hidden layer, from the arguments. -/
def hidden (a0 : FVec F S1024x4 .f32) (a1 : FVec F S64x4 .f32) (a2 : FVec F S64 .f32) (a3 : FVec F S64x64 .f32) (a4 : FVec F S64 .f32)
    (a5 : FVec F S64x64 .f32) (a6 : FVec F S64 .f32) : FVec F S1024x64 .f32 :=
  relu (dense (dense (relu (first a0 a1 a2)) a3 a4) a5 a6)

/-- The second result, from the queries, the keys, the values and the indices of the neighbours. -/
def value (e : FVec F S1024x64 .f32) (k : FVec F S100000x64 .f32) (v : FVec F S100000 .f32) (i : IVec S1024x50 32) : FVec F S1024 .f32 :=
  blend (weigh (away e (takeKeys k i))) (takeVals v i)

/-! ## The lists before the launch -/

variable (W : Valuation τ sig (Elt F))

/-- The first list leaves the first layer before its rectifier. -/
theorem read0 : after hostOps0 W (Proc.devRef .tc main_v4)
    = first (W (Proc.devRef .tc main_arg0)) (W (Proc.devRef .tc main_arg1)) (W (Proc.devRef .tc main_arg2)) := by
  after_results_simp
  rfl

/-- The second list leaves its input rectified. -/
theorem read1 : after hostOps0_1 W (Proc.devRef .tc main_v5) = relu (W (Proc.devRef .tc main_v4)) := by
  simp only [hostOps0_1, TRef.binary, TRef.ternary, TRef.nullary, TRef.unary, TRef.toBuf, TRef.ofBuf, cast_eq]
  after_results_simp
  rfl

/-- The third list leaves two dense layers applied to what the second left. -/
theorem read2 : after hostOps0_2 W (Proc.devRef .tc main_v15)
    = dense (dense (W (Proc.devRef .tc main_v5)) (W (Proc.devRef .tc main_arg3)) (W (Proc.devRef .tc main_arg4)))
        (W (Proc.devRef .tc main_arg5)) (W (Proc.devRef .tc main_arg6)) := by
  after_results_simp
  rfl

/-- The fourth list leaves its input rectified: the hidden layer. -/
theorem read3 : after hostOps0_3 W (Proc.devRef .tc main_v16) = relu (W (Proc.devRef .tc main_v15)) := by
  simp only [hostOps0_3, TRef.binary, TRef.ternary, TRef.nullary, TRef.unary, TRef.toBuf, TRef.ofBuf, cast_eq]
  after_results_simp
  rfl

/-- The fifth list leaves the head with two outputs, which is the first result, -/
theorem read4_head : after hostOps0_4 W (Proc.devRef .tc main_v21)
    = head (W (Proc.devRef .tc main_v16)) (W (Proc.devRef .tc main_arg7)) (W (Proc.devRef .tc main_arg8)) := by
  after_results_simp
  rfl

/-- the queries, -/
theorem read4_emb : after hostOps0_4 W (Proc.devRef .tc main_v26)
    = dense (W (Proc.devRef .tc main_v16)) (W (Proc.devRef .tc main_arg9)) (W (Proc.devRef .tc main_arg10)) := by
  after_results_simp
  rfl

/-- their sums of squares, -/
theorem read4_sumSq : after hostOps0_4 W (Proc.devRef .tc main_v29)
    = sumSq (dense (W (Proc.devRef .tc main_v16)) (W (Proc.devRef .tc main_arg9)) (W (Proc.devRef .tc main_arg10))) := by
  after_results_simp
  rfl

/-- and a zero. -/
theorem read4_zero : after hostOps0_4 W (Proc.devRef .tc main_c) = constantI S_ 32 0#32 := by
  after_results_simp
  all_goals rfl

/-- The sixth list pads the keys with that zero. -/
theorem read5 (h : W (Proc.devRef .tc main_c) = constantI S_ 32 0#32) :
    after hostOps0_5 W (Proc.devRef .tc main_v30) = padKeys (W (Proc.devRef .tc main_arg11)) := by
  simp only [hostOps0_5, TRef.binary, TRef.ternary, TRef.nullary, TRef.unary, TRef.toBuf, TRef.ofBuf, cast_eq]
  after_results_simp
  rw [h]
  rfl

/-! ## The lists after the launch -/

/-- The first list after the launch leaves the columns of the nearest keys. -/
theorem read6 : after hostOps1 W (Proc.devRef .tc main_indices) = best (W (Proc.devRef .tc main_v31)) := by
  after_results_simp
  rfl

/-- The second looks the keys up at them. -/
theorem read7 : after hostOps1_1 W (Proc.devRef .tc main_v33)
    = takeKeys (W (Proc.devRef .tc main_arg11)) (W (Proc.devRef .tc main_indices)) := by
  simp only [hostOps1_1, TRef.binary, TRef.ternary, TRef.nullary, TRef.unary, TRef.toBuf, TRef.ofBuf, cast_eq]
  after_results_simp
  rfl

/-- The third looks the values up at them. -/
theorem read8 : after hostOps1_2 W (Proc.devRef .tc main_v34)
    = takeVals (W (Proc.devRef .tc main_arg12)) (W (Proc.devRef .tc main_indices)) := by
  simp only [hostOps1_2, TRef.binary, TRef.ternary, TRef.nullary, TRef.unary, TRef.toBuf, TRef.ofBuf, cast_eq]
  after_results_simp
  rfl

/-- The fourth weighs the values by the distances and sums them. -/
theorem read9 : after hostOps1_3 W (Proc.devRef .tc main_v51)
    = blend (weigh (away (W (Proc.devRef .tc main_v26)) (W (Proc.devRef .tc main_v33)))) (W (Proc.devRef .tc main_v34)) := by
  after_results_simp
  rfl

/-! ## What a list does not write it keeps -/

/-- The buffers that `hostOps0` writes. -/
abbrev hostOps0_W : List (Ref sig .tc) := [main_v0, main_v1, main_v2, main_v3, main_v4]

/-- A buffer that `hostOps0` does not write keeps its contents through it. -/
theorem hostOps0_keep (b : Ref sig .tc) (h : b ∉ hostOps0_W) : after hostOps0 W (Proc.devRef .tc b) = W (Proc.devRef .tc b) :=
  after_of_writes_sub (W := hostOps0_W) hostOps0 _ (by
    simp only [List.Forall, TRef.nullary, TRef.unary, TRef.binary, TRef.ternary, nullary_writes, unary_writes, binary_writes, ternary_writes, Finset.singleton_subset_iff, List.mem_toFinset]
    repeat' apply And.intro
    all_goals exact List.mem_map_of_mem (by decide)) h

/-- The buffers that `hostOps0_1` writes. -/
abbrev hostOps0_1_W : List (Ref sig .tc) := [main_call0_cst, main_call0_v0, main_v5]

/-- A buffer that `hostOps0_1` does not write keeps its contents through it. -/
theorem hostOps0_1_keep (b : Ref sig .tc) (h : b ∉ hostOps0_1_W) : after hostOps0_1 W (Proc.devRef .tc b) = W (Proc.devRef .tc b) :=
  after_of_writes_sub (W := hostOps0_1_W) hostOps0_1 _ (by
    simp only [List.Forall, TRef.nullary, TRef.unary, TRef.binary, TRef.ternary, nullary_writes, unary_writes, binary_writes, ternary_writes, Finset.singleton_subset_iff, List.mem_toFinset]
    repeat' apply And.intro
    all_goals exact List.mem_map_of_mem (by decide)) h

/-- The buffers that `hostOps0_2` writes. -/
abbrev hostOps0_2_W : List (Ref sig .tc) := [main_v6, main_v7, main_v8, main_v9, main_v10, main_v11, main_v12, main_v13, main_v14, main_v15]

/-- A buffer that `hostOps0_2` does not write keeps its contents through it. -/
theorem hostOps0_2_keep (b : Ref sig .tc) (h : b ∉ hostOps0_2_W) : after hostOps0_2 W (Proc.devRef .tc b) = W (Proc.devRef .tc b) :=
  after_of_writes_sub (W := hostOps0_2_W) hostOps0_2 _ (by
    simp only [List.Forall, TRef.nullary, TRef.unary, TRef.binary, TRef.ternary, nullary_writes, unary_writes, binary_writes, ternary_writes, Finset.singleton_subset_iff, List.mem_toFinset]
    repeat' apply And.intro
    all_goals exact List.mem_map_of_mem (by decide)) h

/-- The buffers that `hostOps0_3` writes. -/
abbrev hostOps0_3_W : List (Ref sig .tc) := [main_call1_cst, main_call1_v0, main_v16]

/-- A buffer that `hostOps0_3` does not write keeps its contents through it. -/
theorem hostOps0_3_keep (b : Ref sig .tc) (h : b ∉ hostOps0_3_W) : after hostOps0_3 W (Proc.devRef .tc b) = W (Proc.devRef .tc b) :=
  after_of_writes_sub (W := hostOps0_3_W) hostOps0_3 _ (by
    simp only [List.Forall, TRef.nullary, TRef.unary, TRef.binary, TRef.ternary, nullary_writes, unary_writes, binary_writes, ternary_writes, Finset.singleton_subset_iff, List.mem_toFinset]
    repeat' apply And.intro
    all_goals exact List.mem_map_of_mem (by decide)) h

/-- The buffers that `hostOps0_4` writes. -/
abbrev hostOps0_4_W : List (Ref sig .tc) := [main_v17, main_v18, main_v19, main_v20, main_v21, main_v22, main_v23, main_v24, main_v25, main_v26, main_v27, main_cst, main_v28, main_v29, main_c]

/-- A buffer that `hostOps0_4` does not write keeps its contents through it. -/
theorem hostOps0_4_keep (b : Ref sig .tc) (h : b ∉ hostOps0_4_W) : after hostOps0_4 W (Proc.devRef .tc b) = W (Proc.devRef .tc b) :=
  after_of_writes_sub (W := hostOps0_4_W) hostOps0_4 _ (by
    simp only [List.Forall, TRef.nullary, TRef.unary, TRef.binary, TRef.ternary, nullary_writes, unary_writes, binary_writes, ternary_writes, Finset.singleton_subset_iff, List.mem_toFinset]
    repeat' apply And.intro
    all_goals exact List.mem_map_of_mem (by decide)) h

/-- The buffers that `hostOps0_5` writes. -/
abbrev hostOps0_5_W : List (Ref sig .tc) := [main_call2_v0, main_v30]

/-- A buffer that `hostOps0_5` does not write keeps its contents through it. -/
theorem hostOps0_5_keep (b : Ref sig .tc) (h : b ∉ hostOps0_5_W) : after hostOps0_5 W (Proc.devRef .tc b) = W (Proc.devRef .tc b) :=
  after_of_writes_sub (W := hostOps0_5_W) hostOps0_5 _ (by
    simp only [List.Forall, TRef.nullary, TRef.unary, TRef.binary, TRef.ternary, nullary_writes, unary_writes, binary_writes, ternary_writes, Finset.singleton_subset_iff, List.mem_toFinset]
    repeat' apply And.intro
    all_goals exact List.mem_map_of_mem (by decide)) h

/-- The buffers that `hostOps1` writes. -/
abbrev hostOps1_W : List (Ref sig .tc) := [main_v32, main_values, main_indices]

/-- A buffer that `hostOps1` does not write keeps its contents through it. -/
theorem hostOps1_keep (b : Ref sig .tc) (h : b ∉ hostOps1_W) : after hostOps1 W (Proc.devRef .tc b) = W (Proc.devRef .tc b) :=
  after_of_writes_sub (W := hostOps1_W) hostOps1 _ (by
    simp only [List.Forall, TRef.nullary, TRef.unary, TRef.binary, TRef.ternary, nullary_writes, unary_writes, binary_writes, ternary_writes, Finset.singleton_subset_iff, List.mem_toFinset]
    repeat' apply And.intro
    all_goals exact List.mem_map_of_mem (by decide)) h

/-- The buffers that `hostOps1_1` writes. -/
abbrev hostOps1_1_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v33]

/-- A buffer that `hostOps1_1` does not write keeps its contents through it. -/
theorem hostOps1_1_keep (b : Ref sig .tc) (h : b ∉ hostOps1_1_W) : after hostOps1_1 W (Proc.devRef .tc b) = W (Proc.devRef .tc b) :=
  after_of_writes_sub (W := hostOps1_1_W) hostOps1_1 _ (by
    simp only [List.Forall, TRef.nullary, TRef.unary, TRef.binary, TRef.ternary, nullary_writes, unary_writes, binary_writes, ternary_writes, Finset.singleton_subset_iff, List.mem_toFinset]
    repeat' apply And.intro
    all_goals exact List.mem_map_of_mem (by decide)) h

/-- The buffers that `hostOps1_2` writes. -/
abbrev hostOps1_2_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v34]

/-- A buffer that `hostOps1_2` does not write keeps its contents through it. -/
theorem hostOps1_2_keep (b : Ref sig .tc) (h : b ∉ hostOps1_2_W) : after hostOps1_2 W (Proc.devRef .tc b) = W (Proc.devRef .tc b) :=
  after_of_writes_sub (W := hostOps1_2_W) hostOps1_2 _ (by
    simp only [List.Forall, TRef.nullary, TRef.unary, TRef.binary, TRef.ternary, nullary_writes, unary_writes, binary_writes, ternary_writes, Finset.singleton_subset_iff, List.mem_toFinset]
    repeat' apply And.intro
    all_goals exact List.mem_map_of_mem (by decide)) h

/-- The buffers that `hostOps1_3` writes. -/
abbrev hostOps1_3_W : List (Ref sig .tc) := [main_v35, main_v36, main_v37, main_v38, main_cst_0, main_v39, main_cst_1, main_v40, main_v41, main_v42, main_cst_2, main_v43, main_v44, main_cst_3, main_v45, main_v46, main_cst_4, main_v47, main_v48, main_v49, main_v50, main_cst_5, main_v51]

/-- A buffer that `hostOps1_3` does not write keeps its contents through it. -/
theorem hostOps1_3_keep (b : Ref sig .tc) (h : b ∉ hostOps1_3_W) : after hostOps1_3 W (Proc.devRef .tc b) = W (Proc.devRef .tc b) :=
  after_of_writes_sub (W := hostOps1_3_W) hostOps1_3 _ (by
    simp only [List.Forall, TRef.nullary, TRef.unary, TRef.binary, TRef.ternary, nullary_writes, unary_writes, binary_writes, ternary_writes, Finset.singleton_subset_iff, List.mem_toFinset]
    repeat' apply And.intro
    all_goals exact List.mem_map_of_mem (by decide)) h

end Cert.Host
-- ==== Proof.Block.lean ====
/-
  What the kernel's body computes at one element of its block, and what the reference's matrix of negated squared distances
  holds at one element, over the extended reals.
-/
module

public import proofs.«01_k».proof.Proof.Gen.KernelIdeal.Skeleton
public import proofs.«01_k».proof.Proof.Gen.ReferenceIdeal.Run
public import Idealize.ShloMosaic.Lib.Pointwise

@[expose] public section

noncomputable section

open Idealize.ShloMosaic

namespace Cert.Block

/-- The squared distance of a query `e`, of squared length `q`, and a key `k`, as the two programs spell it:
    `q + Σ k² − 2 · Σ e·k`. -/
def dist (q : EReal) (e k : Fin 64 → EReal) : EReal :=
  q + ∑ x, k x * k x - Ideal.ofBits .f32 0x40000000#32 * ∑ x, e x * k x

/-- The named mask is `+∞`. -/
theorem mask_top : Named.named (F := Ideal) Cert.KernelIdeal.κ "mask" (φ := .f32) 0x7149F2CA#32 = (⊤ : EReal) :=
  IdealRules.named_const.ideal_named_scalar _ _ _ _ rfl

/-- The block's column `j` at grid point `t` is a pad column exactly when `100000 ≤ 2048 t + j`, as 32-bit words say it. -/
theorem isPad (t j : Nat) (ht : t < 49) (hj : j < 2048) :
    IntOp.cmpi .sge (IntOp.addi (Scalar.muli (BitVec.ofNat 32 t) 2048#32) (BitVec.ofNat 32 j)) 100000#32
      = if 100000 ≤ t * 2048 + j then 1#1 else 0#1 := by
  have e : IntOp.addi (Scalar.muli (BitVec.ofNat 32 t) 2048#32) (BitVec.ofNat 32 j) = BitVec.ofNat 32 (t * 2048 + j) := by
    apply BitVec.eq_of_toNat_eq
    simp [IntOp.addi, Scalar.muli, IntOp.muli]
  rw [e]
  have h : (BitVec.ofNat 32 (t * 2048 + j)).toInt = ((t * 2048 + j : Nat) : Int) := by
    have hn : (BitVec.ofNat 32 (t * 2048 + j)).toNat = t * 2048 + j := by
      rw [BitVec.toNat_ofNat]; exact Nat.mod_eq_of_lt (by omega)
    rw [BitVec.toInt_eq_toNat_of_lt (by rw [hn]; omega), hn]
  have h' : (100000#32).toInt = 100000 := by decide
  simp only [IntOp.cmpi, h, h', BitVec.sle]
  by_cases hc : 100000 ≤ t * 2048 + j
  · rw [if_pos hc, decide_eq_true (by omega)]; rfl
  · rw [if_neg hc, decide_eq_false (by omega)]; rfl

/-- One element of the kernel's block: the mask on a pad column, elsewhere the squared distance. -/
theorem pay_apply (i : Cert.KernelIdeal.grid0.Coords) (keys : FVec Ideal Cert.KernelIdeal.S2048x64 .f32)
    (emb : FVec Ideal Cert.KernelIdeal.S1024x64 .f32) (qsq : FVec Ideal Cert.KernelIdeal.S1024x1 .f32)
    (r : Fin 1024) (j : Fin 2048) :
    Cert.KernelIdeal.Gen.k0_pay1 (F := Ideal) i keys emb qsq (ix2 r j)
      = if 100000 ≤ (i 0).val * 2048 + j.val then ⊤
        else dist (qsq (ix2 r 0)) (fun x => emb (ix2 r x)) (fun x => keys (ix2 j x)) := by
  unfold Cert.KernelIdeal.Gen.k0_pay1
  pointwise
  rw [isPad _ _ (i 0).isLt j.isLt, mask_top]
  by_cases h : 100000 ≤ (i 0).val * 2048 + j.val
  · rw [if_pos h, if_pos h]; rfl
  · rw [if_neg h, if_neg h]; rfl

section Reference

open Cert.ReferenceIdeal Cert.ReferenceIdeal.Gen

/-- The reference's negated squared distances of the queries and the keys, as it computes them. -/
def negD2 (emb : FVec Ideal S1024x64 .f32) (keys : FVec Ideal S100000x64 .f32) : FVec Ideal S1024x100000 .f32 :=
  Host.negf (subf
    (addf (broadcastInDim S1024x100000 ![0, 1] bcast_S1024x1_S1024x100000_0_1 (broadcastInDim S1024x1 ![0] bcast_S1024_S1024x1_0
        (Host.reduceAdd (mulf emb emb) (constant S_ .f32 0x00000000#32) reducesTo_S1024x64_S1024_d1 h_S_)))
      (broadcastInDim S1024x100000 ![0, 1] bcast_S1x100000_S1024x100000_0_1 (broadcastInDim S1x100000 ![1] bcast_S100000_S1x100000_1
        (Host.reduceAdd (mulf keys keys) (constant S_ .f32 0x00000000#32) reducesTo_S100000x64_S100000_d1 h_S_))))
    (mulf (broadcastInDim S1024x100000 ![] bcast_S_S1024x100000 (constant S_ .f32 0x40000000#32))
      (Host.dotGeneral dot_S1024x64_S64x100000_S1024x100000_1_0_0_1_n_n none emb
        (transpose S64x100000 [1, 0] keys transposes_S100000x64_S64x100000_1_0))))

/-- The reference's matrix of negated distances is `negD2` of its queries and keys. -/
theorem negD2_eq (V : Valuation τ sig (Elt Ideal)) :
    Value.res_main_v41 (F := Ideal) V = negD2 (Value.res_main_v26 V) (V (Proc.devRef .tc main_arg11)) := rfl

/-- One element of it. -/
theorem negD2_apply (emb : FVec Ideal S1024x64 .f32) (keys : FVec Ideal S100000x64 .f32) (r : Fin 1024) (j : Fin 100000) :
    negD2 emb keys (ix2 r j)
      = -dist (∑ x : Fin 64, emb (ix2 r x) * emb (ix2 r x)) (fun x => emb (ix2 r x)) (fun x => keys (ix2 j x)) := by
  unfold negD2 dist
  pointwise

end Reference

end Cert.Block
-- ==== Proof.Dist.lean ====
module

public import proofs.«01_k».proof.Proof.Block
public import proofs.«01_k».proof.Proof.Gen.KernelIdeal.Frame
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.Dist

open Cert.KernelIdeal Cert.KernelIdeal.Gen Cert.Block

variable (m : (ℓ : Loc nD τ sig) → Buf (Elt Ideal) ℓ)

/-- The array of the kernel's launch as one function of the queries, their squared norms and the padded keys. -/
def whole (emb : FVec Ideal S1024x64 .f32) (qsq : FVec Ideal S1024x1 .f32) (keys : FVec Ideal S100352x64 .f32) :
    FVec Ideal S1024x100352 .f32 := fun i =>
  if 100000 ≤ (i 1).val then ⊤
  else dist (qsq (ix2 (i 0) 0)) (fun x => emb (ix2 (i 0) x)) (fun x => keys (ix2 (i 1) x))

/-- The offset of a whole block is zero on both axes. -/
theorem hz : (![0, 0] : Fin 2 → Nat) = fun _ => 0 := funext fun a => by fin_cases a <;> rfl

/-- Where the blocks sit: at grid point `t` the keys' block is row block `t`, the result's is column block `t`, the other two are whole. -/
theorem idx_facts : ∀ t : Fin cfg0.N, (grid0.coords t 0).val = t.val ∧ win0_0.index t 0 = 0 ∧ win0_0.index t 1 = 0
    ∧ win0_1.index t 0 = 0 ∧ win0_1.index t 1 = 0 ∧ win0_2.index t 0 = t.val ∧ win0_2.index t 1 = 0
    ∧ win0_3.index t 0 = 0 ∧ win0_3.index t 1 = t.val :=
  (by decide +kernel : ∀ t : Fin grid0.N, _)

/-- The queries' block is the whole array at every grid point. -/
theorem emb_block (c : Dev nD) (t : Fin cfg0.N) (r : Fin 1024) (x : Fin 64) :
    (iblk m c 0 t : FVec Ideal S1024x64 .f32) (ix2 r x) = (V m c main_v26 : FVec Ideal S1024x64 .f32) (ix2 r x) := by
  show (V m c main_v26 : FVec Ideal S1024x64 .f32) ((win0_0.rect t).emb (ix2 r x)) = _
  congr 1
  funext a
  apply Fin.ext
  match a with
  | ⟨0, _⟩ => exact win0_0.rect_emb_val_of_index_zero t 0 (idx_facts t).2.1 _
  | ⟨1, _⟩ => exact win0_0.rect_emb_val_of_index_zero t 1 (idx_facts t).2.2.1 _

/-- So is the block of their squared norms. -/
theorem qsq_block (c : Dev nD) (t : Fin cfg0.N) (r : Fin 1024) (x : Fin 1) :
    (iblk m c 1 t : FVec Ideal S1024x1 .f32) (ix2 r x) = (V m c main_v29 : FVec Ideal S1024x1 .f32) (ix2 r x) := by
  show (V m c main_v29 : FVec Ideal S1024x1 .f32) ((win0_1.rect t).emb (ix2 r x)) = _
  congr 1
  funext a
  apply Fin.ext
  match a with
  | ⟨0, _⟩ => exact win0_1.rect_emb_val_of_index_zero t 0 (idx_facts t).2.2.2.1 _
  | ⟨1, _⟩ => exact win0_1.rect_emb_val_of_index_zero t 1 (idx_facts t).2.2.2.2.1 _

/-- Row `j` of the keys' block at grid point `t` is row `2048 t + j` of the padded keys. -/
theorem key_block (c : Dev nD) (t : Fin cfg0.N) (j : Fin 2048) (x : Fin 64) (j' : Fin 100352) (hj : j'.val = t.val * 2048 + j.val) :
    (iblk m c 2 t : FVec Ideal S2048x64 .f32) (ix2 j x) = (V m c main_v30 : FVec Ideal S100352x64 .f32) (ix2 j' x) := by
  show (V m c main_v30 : FVec Ideal S100352x64 .f32) ((win0_2.rect t).emb (ix2 j x)) = _
  congr 1
  funext a
  apply Fin.ext
  match a with
  | ⟨0, _⟩ =>
    refine (win0_2.rect_emb_val t _ 0).trans ?_
    rw [(idx_facts t).2.2.2.2.2.1]
    exact hj.symm
  | ⟨1, _⟩ => exact win0_2.rect_emb_val_of_index_zero t 1 (idx_facts t).2.2.2.2.2.2.1 _

/-- Where element `(r, j)` of the result's block at grid point `t` sits in the result: row `r`, column `2048 t + j`. -/
theorem out_emb (t : Fin cfg0.N) (r : Fin 1024) (j : Fin 2048) (j' : Fin 100352) (hj : j'.val = t.val * 2048 + j.val) :
    (win0_3.rect t).emb (ix2 r j) = (ix2 r j' : S1024x100352.Idx) := by
  funext a
  apply Fin.ext
  match a with
  | ⟨0, _⟩ => exact win0_3.rect_emb_val_of_index_zero t 0 (idx_facts t).2.2.2.2.2.2.2.1 _
  | ⟨1, _⟩ =>
    refine (win0_3.rect_emb_val t _ 1).trans ?_
    rw [(idx_facts t).2.2.2.2.2.2.2.2]
    exact hj.symm

/-- What grid point `t` writes back is its block of `whole`. -/
theorem flushed_eq (c : Dev nD) (t : Fin cfg0.N) :
    (dats m 0 c).flushed 3 t = (win0_3.blk t).view.read (Elt Ideal) (whole (V m c main_v26) (V m c main_v29) (V m c main_v30)) := by
  show (cfg0.win 3).cut (grid0.coords t) ((dats m 0 c).after 3 t) = _
  rw [after0_3]
  unfold out0_3
  rw [View.canon_unit_zero hz, View.ld_unit_zero hz, View.ld_unit_zero hz, View.ld_unit_zero hz]
  funext y
  have ht : t.val < 49 := t.isLt.trans_eq N_0
  obtain ⟨r, j, rfl⟩ : ∃ (r : Fin 1024) (j : Fin 2048), y = ix2 r j := ⟨y 0, y 1, eq_ix2 y⟩
  have hlt : t.val * 2048 + j.val < 100352 := by have := j.isLt; omega
  refine (pay_apply (grid0.coords t) _ _ _ r j).trans ?_
  show _ = whole (V m c main_v26) (V m c main_v29) (V m c main_v30) ((win0_3.rect t).emb (ix2 r j))
  rw [out_emb t r j ⟨_, hlt⟩ rfl, (idx_facts t).1, qsq_block m c t r 0]
  simp only [emb_block m c t, key_block m c t j _ ⟨_, hlt⟩ rfl]
  rfl

/-- A column of the result is in grid point `t`'s block exactly when it is one of its 2048 columns. -/
theorem mem_blk (t : Fin cfg0.N) (i : S1024x100352.Idx) :
    i ∈ ((cfg0.win 3).blk t).view.set ↔ t.val * 2048 ≤ (i 1).val ∧ (i 1).val < t.val * 2048 + 2048 := by
  show i ∈ ((View.whole main_v31).slice (win0_3.rect t)).set ↔ _
  rw [View.set_slice_whole, Rect.mem_set_unit]
  have h0 : (i 0).val < 1024 := (i 0).isLt
  have e0 : win0_3.index t 0 * win0_3.size 0 = 0 := by rw [(idx_facts t).2.2.2.2.2.2.2.1]; exact Nat.zero_mul _
  have e1 : win0_3.index t 1 * win0_3.size 1 = t.val * 2048 := by rw [(idx_facts t).2.2.2.2.2.2.2.2]; rfl
  have s0 : win0_3.xsize (grid0.coords t) 0 = 1024 := rfl
  have s1 : win0_3.xsize (grid0.coords t) 1 = 2048 := rfl
  refine ⟨fun h => ?_, fun h a => ?_⟩
  · have h1 : win0_3.index t 1 * win0_3.size 1 ≤ (i 1).val ∧ (i 1).val < win0_3.index t 1 * win0_3.size 1 + win0_3.xsize (grid0.coords t) 1 := h 1
    rw [e1, s1] at h1
    exact h1
  · match a with
    | ⟨0, _⟩ =>
      show win0_3.index t 0 * win0_3.size 0 ≤ (i 0).val ∧ (i 0).val < win0_3.index t 0 * win0_3.size 0 + win0_3.xsize (grid0.coords t) 0
      rw [e0, s0]; omega
    | ⟨1, _⟩ =>
      show win0_3.index t 1 * win0_3.size 1 ≤ (i 1).val ∧ (i 1).val < win0_3.index t 1 * win0_3.size 1 + win0_3.xsize (grid0.coords t) 1
      rw [e1, s1]; exact h

/-- The 49 blocks fill the result. -/
theorem cover (i : S1024x100352.Idx) :
    ∃ t : Fin cfg0.N, (cfg0.win 3).flush t = true ∧ i ∈ ((cfg0.win 3).blk t).view.set := by
  have h1 : (i 1).val < 100352 := (i 1).isLt
  have hN : cfg0.N = 49 := N_0
  refine ⟨⟨(i 1).val / 2048, by omega⟩, flush0_3 _, ?_⟩
  rw [mem_blk]
  dsimp only
  omega

/-- So the launch leaves the whole array of masked squared distances. -/
theorem final (c : Dev nD) :
    (dats m 0 c).arrAt 3 cfg0.N = whole (V m c main_v26) (V m c main_v29) (V m c main_v30) :=
  (dats m 0 c).arrAt_eq_of_cover 3 _ (fun t _ => flushed_eq m c t) cover

end Cert.Dist
-- ==== Proof.TopK.lean ====
/-
  A stable top-k does not see a tail of least elements: when a fiber is lengthened by elements that sort before none
  of the old ones, the first positions of its stable sort are the old ones.
-/
module

public import Idealize.ShloMosaic.PureOps
public import Idealize.ShloMosaic.Lib.ValueIdxCore

@[expose] public section

open Idealize.ShloMosaic Idealize.ShloMosaic.ValueIdx

namespace Cert.TopK

variable {ι κ : Type}

/-- Inserting an element into `s ++ r` when nothing of `r` goes before it is inserting it into `s`. -/
theorem insertBefore_append (B : ι → ι → Bool) (a : ι) (s r : List ι) (h : ∀ b ∈ r, B b a = false) :
    insertBefore B a (s ++ r) = insertBefore B a s ++ r := by
  induction s with
  | nil =>
    cases r with
    | nil => rfl
    | cons b r => simp [insertBefore, h b (by simp)]
  | cons c s ih =>
    simp only [List.cons_append, insertBefore]
    split
    · rw [ih]; rfl
    · rfl

/-- Sorting moves an element neither in nor out. -/
theorem mem_insertBefore (B : ι → ι → Bool) (a x : ι) (s : List ι) : x ∈ insertBefore B a s ↔ x = a ∨ x ∈ s := by
  induction s with
  | nil => simp [insertBefore]
  | cons b s ih =>
    simp only [insertBefore]
    split
    · simp only [List.mem_cons, ih]; tauto
    · simp

/-- Sorting keeps the elements. -/
theorem mem_stableSort (B : ι → ι → Bool) (x : ι) (s : List ι) : x ∈ stableSort B s ↔ x ∈ s := by
  induction s with
  | nil => simp [stableSort]
  | cons b s ih => simp only [stableSort, mem_insertBefore, ih, List.mem_cons]

/-- A list followed by elements that go before none of it is sorted part by part. -/
theorem stableSort_append (B : ι → ι → Bool) (l r : List ι) (h : ∀ a ∈ l, ∀ b ∈ r, B b a = false) :
    stableSort B (l ++ r) = stableSort B l ++ stableSort B r := by
  induction l with
  | nil => rfl
  | cons a l ih =>
    simp only [List.cons_append, stableSort]
    rw [ih fun x hx => h x (List.mem_cons_of_mem _ hx)]
    exact insertBefore_append B a _ _ fun b hb => h a (by simp) b ((mem_stableSort B b r).mp hb)

/-- A sort of renamed elements is the renamed sort. -/
theorem insertBefore_map (f : κ → ι) (B : ι → ι → Bool) (a : κ) (l : List κ) :
    insertBefore B (f a) (l.map f) = (insertBefore (fun x y => B (f x) (f y)) a l).map f := by
  induction l with
  | nil => rfl
  | cons b l ih =>
    simp only [List.map_cons, insertBefore]
    split
    · rw [ih]; rfl
    · rfl

/-- Sorting the images of a list is taking the images of the list sorted by its images' order. -/
theorem stableSort_map (f : κ → ι) (B : ι → ι → Bool) (l : List κ) :
    stableSort B (l.map f) = (stableSort (fun x y => B (f x) (f y)) l).map f := by
  induction l with
  | nil => rfl
  | cons a l ih => simp only [List.map_cons, stableSort]; rw [ih, insertBefore_map]

/-- The positions below `n + m` are those below `n`, then the `m` others. -/
theorem finRange_append (n m : Nat) :
    List.finRange (n + m) = (List.finRange n).map (Fin.castAdd m) ++ (List.finRange m).map (Fin.natAdd n) := by
  rw [← List.ofFn_id, List.ofFn_add, List.ofFn_eq_map, List.ofFn_eq_map]
  rfl

/-- Position `k < n` of the sort of `n + m` elements, the last `m` of which go before none of the first `n`, is position
    `k` of the sort of the first `n`. -/
theorem sortedFrom_castAdd {n m : Nat} (B : Fin n → Fin n → Bool) (B' : Fin (n + m) → Fin (n + m) → Bool)
    (h : ∀ a b, B' (Fin.castAdd m a) (Fin.castAdd m b) = B a b)
    (hp : ∀ a b, B' (Fin.natAdd n b) (Fin.castAdd m a) = false) (k : Fin n) :
    sortedFrom B' (Fin.castAdd m k) = Fin.castAdd m (sortedFrom B k) := by
  have e : sortPositions (n + m) B'
      = (sortPositions n B).map (Fin.castAdd m) ++ stableSort B' ((List.finRange m).map (Fin.natAdd n)) := by
    unfold sortPositions
    rw [finRange_append, stableSort_append, stableSort_map]
    · simp only [h]
    · intro a ha b hb
      obtain ⟨x, -, rfl⟩ := List.mem_map.mp ha
      obtain ⟨y, -, rfl⟩ := List.mem_map.mp hb
      exact hp x y
  have hk : k.val < (sortPositions n B).length := by rw [length_sortPositions]; exact k.isLt
  have hk' : k.val < ((sortPositions n B).map (Fin.castAdd m)).length := by rw [List.length_map]; exact hk
  unfold sortedFrom
  rw [List.get_of_eq e]
  simp only [List.get_eq_getElem, Fin.val_cast, Fin.val_castAdd]
  rw [List.getElem_append_left hk', List.getElem_map]

/-- The index a top-k along the rows of a matrix takes at `(r, p)`: the column that row `r`'s stable sort puts at `p`. -/
theorem topK_indices_apply {α : Type} {R n k : Nat} (hk : k ≤ n) (gt : α → α → BitVec 1)
    (x : (⟨2, ![R, n]⟩ : Shape).Idx → α) (hx : (⟨2, ![R, n]⟩ : Shape).Slices (fun _ => 0) ⟨2, ![R, k]⟩)
    (r : Fin R) (p : Fin k) :
    (Host.topK ⟨2, ![R, k]⟩ 1 gt x hx).2 (ix2 r p)
      = BitVec.ofNat 32 (sortedFrom (fun a b => gt (x (ix2 r a)) (x (ix2 r b)) == 1#1) (p.castLE hk)).val := by
  have ha : ∀ (i : (⟨2, ![R, n]⟩ : Shape).Idx) (q : Fin n), i.along (1 : Fin 2) q = ix2 (i 0) q := by
    intro i q
    funext a
    match a with
    | ⟨0, _⟩ => rfl
    | ⟨1, _⟩ => rfl
  have hj : (fun a => ⟨0 + (ix2 r p (a.cast hx.1.symm)).val,
      Nat.lt_of_lt_of_le (Nat.add_lt_add_left (ix2 r p (a.cast hx.1.symm)).isLt _) (hx.2 a)⟩ : (⟨2, ![R, n]⟩ : Shape).Idx)
      = ix2 r (p.castLE hk) := by
    funext a
    match a with
    | ⟨0, _⟩ => exact Fin.ext (Nat.zero_add _)
    | ⟨1, _⟩ => exact Fin.ext (Nat.zero_add _)
  unfold Host.topK Host.sort2
  simp only [show (1 : Nat) < (⟨2, ![R, n]⟩ : Shape).rank from Nat.lt_succ_self 1, dite_true, extractStridedSlice]
  rw [hj]
  show BitVec.ofNat 32 _ = _
  erw [ha]
  refine congrArg (BitVec.ofNat 32) (congrArg Fin.val ?_)
  refine Eq.trans (b := sortedFrom (fun a b => gt (x ((ix2 r (p.castLE hk)).along (1 : Fin 2) a))
    (x ((ix2 r (p.castLE hk)).along (1 : Fin 2) b)) == 1#1) (p.castLE hk)) ?_ ?_
  · exact congrArg (sortedFrom _) (Fin.ext (Nat.zero_add p.val))
  · refine congrArg (fun B => sortedFrom B (p.castLE hk)) (funext fun a => funext fun b => ?_)
    exact congrArg₂ (fun i j => gt (x i) (x j) == 1#1) (ha _ a) (ha _ b)

/-- Over a matrix: the indices a top-k along the rows takes are the same when the rows are lengthened by elements that are
    greater than none of the old ones. -/
theorem topK_indices_pad {α : Type} {R n m k : Nat} (hk : k ≤ n) (gt : α → α → BitVec 1)
    (x : (⟨2, ![R, n + m]⟩ : Shape).Idx → α) (y : (⟨2, ![R, n]⟩ : Shape).Idx → α)
    (hx : (⟨2, ![R, n + m]⟩ : Shape).Slices (fun _ => 0) ⟨2, ![R, k]⟩)
    (hy : (⟨2, ![R, n]⟩ : Shape).Slices (fun _ => 0) ⟨2, ![R, k]⟩)
    (hxy : ∀ (r : Fin R) (j : Fin n), x (ix2 r (Fin.castAdd m j)) = y (ix2 r j))
    (hpad : ∀ (r : Fin R) (j : Fin n) (p : Fin m), gt (x (ix2 r (Fin.natAdd n p))) (y (ix2 r j)) = 0#1) :
    (Host.topK ⟨2, ![R, k]⟩ 1 gt x hx).2 = (Host.topK ⟨2, ![R, k]⟩ 1 gt y hy).2 := by
  funext j
  obtain ⟨r, p, rfl⟩ : ∃ r p, j = ix2 r p := ⟨_, _, eq_ix2 j⟩
  have key := sortedFrom_castAdd (fun a b => gt (y (ix2 r a)) (y (ix2 r b)) == 1#1)
    (fun a b : Fin (n + m) => gt (x (ix2 r a)) (x (ix2 r b)) == 1#1)
    (fun a b => by simp only [hxy]) (fun a b => by simp only [hxy, hpad]; rfl) (p.castLE hk)
  rw [topK_indices_apply (hk.trans (Nat.le_add_right n m)), topK_indices_apply hk]
  exact congrArg (fun q : Fin (n + m) => BitVec.ofNat 32 q.val) key

end Cert.TopK
-- ==== Proof.Run.lean ====
/-
  The kernel's run: what its two results hold, as functions of the arguments.
-/
module

public import proofs.«01_k».proof.Proof.Host
public import proofs.«01_k».proof.Proof.Dist
public import proofs.«01_k».proof.Proof.TopK
public import Idealize.ShloMosaic.Lib.Claim

@[expose] public section

set_option maxRecDepth 8192

noncomputable section

open Idealize.ShloMosaic Idealize.ShloMosaic.TcCoe Idealize.SL.Sem Idealize.ShloMosaic.StableHlo
open Idealize.ShloMosaic.Pipeline (Dat)

namespace Cert.Run

open Cert.KernelIdeal Cert.KernelIdeal.Gen Cert.Host

/-- Running one list and then another is running the two joined. -/
theorem after_join {τ : Topo} {sig : RefSig} {Val : EltTy → Type} (l l' : List (HloOp τ sig Val)) (V : Valuation τ sig Val) :
    after (l ++ l') V = after l' (after l V) := by
  induction l generalizing V with
  | nil => rfl
  | cons a l ih => exact ih _

section Before

variable {F : FTy → Type} [FloatOps F] (m : (ℓ : Loc nD τ sig) → Buf (Elt F) ℓ) (c : Dev nD)

/-- Device `c`'s buffers as launched. -/
abbrev start : Valuation τ sig (Elt F) := fun b => m (c, b)

/-- The hidden layer, from the launched arguments. -/
def hid : FVec F S1024x64 .f32 :=
  hidden (start m c (Proc.devRef .tc main_arg0)) (start m c (Proc.devRef .tc main_arg1)) (start m c (Proc.devRef .tc main_arg2))
    (start m c (Proc.devRef .tc main_arg3)) (start m c (Proc.devRef .tc main_arg4)) (start m c (Proc.devRef .tc main_arg5))
    (start m c (Proc.devRef .tc main_arg6))

/-- The queries, from the launched arguments. -/
def emb : FVec F S1024x64 .f32 :=
  dense (hid m c) (start m c (Proc.devRef .tc main_arg9)) (start m c (Proc.devRef .tc main_arg10))

/-- The buffers after the first four lists. -/
def mid : Valuation τ sig (Elt F) := after hostOps0_3 (after hostOps0_2 (after hostOps0_1 (after hostOps0 (start m c))))

/-- The buffers the launch finds: six lists, of which the first four make `mid`. -/
theorem V0_eq : V0 m c = after hostOps0_5 (after hostOps0_4 (mid m c)) := by
  show after _ _ = _
  simp only [List.flatten_cons, List.flatten_nil, List.append_nil, after_join]
  rfl

/-- The first four lists write no argument. -/
theorem mid_keep (b : Ref sig .tc) (h0 : b ∉ hostOps0_W) (h1 : b ∉ hostOps0_1_W) (h2 : b ∉ hostOps0_2_W) (h3 : b ∉ hostOps0_3_W) :
    mid m c (Proc.devRef .tc b) = start m c (Proc.devRef .tc b) := by
  unfold mid
  rw [hostOps0_3_keep _ b h3, hostOps0_2_keep _ b h2, hostOps0_1_keep _ b h1, hostOps0_keep _ b h0]

/-- They leave the hidden layer. -/
theorem mid_hid : mid m c (Proc.devRef .tc main_v16) = hid m c := by
  unfold mid
  rw [read3, read2, read1, read0]
  rw [hostOps0_1_keep _ main_arg3 (by decide), hostOps0_keep _ main_arg3 (by decide),
    hostOps0_1_keep _ main_arg4 (by decide), hostOps0_keep _ main_arg4 (by decide),
    hostOps0_1_keep _ main_arg5 (by decide), hostOps0_keep _ main_arg5 (by decide),
    hostOps0_1_keep _ main_arg6 (by decide), hostOps0_keep _ main_arg6 (by decide)]
  rfl

/-- The first result, before the launch. -/
theorem V0_head : V0 m c (Proc.devRef .tc main_v21)
    = head (hid m c) (start m c (Proc.devRef .tc main_arg7)) (start m c (Proc.devRef .tc main_arg8)) := by
  rw [V0_eq, hostOps0_5_keep _ main_v21 (by decide), read4_head, mid_hid,
    mid_keep m c main_arg7 (by decide) (by decide) (by decide) (by decide),
    mid_keep m c main_arg8 (by decide) (by decide) (by decide) (by decide)]

/-- The queries the launch finds, -/
theorem V0_emb : V0 m c (Proc.devRef .tc main_v26) = emb m c := by
  rw [V0_eq, hostOps0_5_keep _ main_v26 (by decide), read4_emb, mid_hid,
    mid_keep m c main_arg9 (by decide) (by decide) (by decide) (by decide),
    mid_keep m c main_arg10 (by decide) (by decide) (by decide) (by decide)]
  rfl

/-- their squared norms, -/
theorem V0_sumSq : V0 m c (Proc.devRef .tc main_v29) = sumSq (emb m c) := by
  rw [V0_eq, hostOps0_5_keep _ main_v29 (by decide), read4_sumSq, mid_hid,
    mid_keep m c main_arg9 (by decide) (by decide) (by decide) (by decide),
    mid_keep m c main_arg10 (by decide) (by decide) (by decide) (by decide)]
  rfl

/-- and the padded keys. -/
theorem V0_keys : V0 m c (Proc.devRef .tc main_v30) = padKeys (start m c (Proc.devRef .tc main_arg11)) := by
  rw [V0_eq, read5 _ (read4_zero _), hostOps0_4_keep _ main_arg11 (by decide),
    mid_keep m c main_arg11 (by decide) (by decide) (by decide) (by decide)]

end Before

section After

variable {F : FTy → Type} [FloatOps F] [Named F] (m : (ℓ : Loc nD τ sig) → Buf (Elt F) ℓ) (c : Dev nD)

/-- The buffers just after the launch. -/
def done : Valuation τ sig (Elt F) :=
  Pipeline.withArrays spec0 c (V0 m c) fun w => (dats m 0 c).arrAt w cfg0.N

/-- The buffers at the end: four lists run on what the launch leaves. -/
theorem tail_eq (b : Ref sig .tc) :
    Pipeline.afterTail₀ cfgs (dats m) 0 (V0 m) [hostOps1, hostOps1_1, hostOps1_2, hostOps1_3] c b
      = after hostOps1_3 (after hostOps1_2 (after hostOps1_1 (after hostOps1 (done m c)))) (Proc.devRef .tc b) := by
  unfold Pipeline.afterTail₀ done
  simp only [List.flatten_cons, List.flatten_nil, List.append_nil, after_join]

/-- The launch leaves a buffer that is none of its arrays as it found it. -/
theorem done_keep (b : Ref sig .tc) (h : ∀ w, Pipeline.arrRef spec0 w ≠ b) :
    done m c (Proc.devRef .tc b) = V0 m c (Proc.devRef .tc b) :=
  Pipeline.withArrays_of_ne _ c (V0 m c) _ b h

/-- The launch's four arrays are four different buffers. -/
theorem arr_inj : Function.Injective (Pipeline.arrRef spec0) := by decide

/-- The queries are an input of the launch, unchanged. -/
theorem done_emb : done m c (Proc.devRef .tc main_v26) = emb m c :=
  (Pipeline.withArrays_arr spec0 arr_inj c (V0 m c) _ 0).trans
    (((dats m 0 c).arrAt_in 0 rfl _).trans ((A_eq m c 0).trans (V0_emb m c)))

/-- The launch finds the keys as launched. -/
theorem V0_arg11 : V0 m c (Proc.devRef .tc main_arg11) = start m c (Proc.devRef .tc main_arg11) := V_main_arg11 m c

/-- The launch finds the values as launched. -/
theorem V0_arg12 : V0 m c (Proc.devRef .tc main_arg12) = start m c (Proc.devRef .tc main_arg12) := V_main_arg12 m c

/-- The first result is not touched after the launch. -/
theorem tail_head : Pipeline.afterTail₀ cfgs (dats m) 0 (V0 m) [hostOps1, hostOps1_1, hostOps1_2, hostOps1_3] c main_v21
    = head (hid m c) (start m c (Proc.devRef .tc main_arg7)) (start m c (Proc.devRef .tc main_arg8)) := by
  rw [tail_eq, hostOps1_3_keep _ main_v21 (by decide), hostOps1_2_keep _ main_v21 (by decide), hostOps1_1_keep _ main_v21 (by decide),
    hostOps1_keep _ main_v21 (by decide), done_keep m c main_v21 (by decide), V0_head]

/-- The second result, from the array the launch leaves. -/
theorem tail_value : Pipeline.afterTail₀ cfgs (dats m) 0 (V0 m) [hostOps1, hostOps1_1, hostOps1_2, hostOps1_3] c main_v51
    = value (emb m c) (start m c (Proc.devRef .tc main_arg11)) (start m c (Proc.devRef .tc main_arg12)) (best ((dats m 0 c).arrAt 3 cfg0.N)) := by
  have h31 : done m c (Proc.devRef .tc main_v31) = (dats m 0 c).arrAt 3 cfg0.N := Pipeline.withArrays_arr spec0 arr_inj c (V0 m c) _ 3
  rw [tail_eq, read9, read8, hostOps1_2_keep _ main_v26 (by decide), hostOps1_2_keep _ main_v33 (by decide), read7,
    hostOps1_1_keep _ main_v26 (by decide), hostOps1_1_keep _ main_arg12 (by decide), hostOps1_1_keep _ main_indices (by decide),
    hostOps1_keep _ main_v26 (by decide), hostOps1_keep _ main_arg12 (by decide), hostOps1_keep _ main_arg11 (by decide), read6,
    done_keep m c main_arg12 (by decide), done_keep m c main_arg11 (by decide), h31, done_emb, V0_arg11, V0_arg12]
  rfl

end After

end Cert.Run
-- ==== Proof.Best.lean ====
/-
  The neighbours: the 50 nearest keys the kernel finds in its padded matrix are the 50 the reference finds in its own.
-/
module

public import proofs.«01_k».proof.Proof.Run

@[expose] public section

set_option maxRecDepth 8192

noncomputable section

open Idealize.ShloMosaic Idealize.ShloMosaic.TcCoe Idealize.SL.Sem

namespace Cert.Best

open Cert.KernelIdeal Cert.KernelIdeal.Gen Cert.Host Cert.Block

/-- A row's sum of squares. -/
theorem sumSq_apply (e : FVec Ideal S1024x64 .f32) (r : Fin 1024) :
    sumSq e (ix2 r 0) = ∑ x : Fin 64, e (ix2 r x) * e (ix2 r x) := by
  unfold sumSq
  pointwise

/-- The padded keys hold the keys in their first 100000 rows. -/
theorem padKeys_apply (k : FVec Ideal S100000x64 .f32) (j : Fin 100000) (x : Fin 64) (j' : Fin 100352) (h : j'.val = j.val) :
    padKeys k (ix2 j' x) = k (ix2 j x) := by
  unfold padKeys
  have hj := j.isLt
  have hx := x.isLt
  unfold pad
  rw [dif_pos]
  · congr 1
    funext a
    apply Fin.ext
    match a with
    | ⟨0, _⟩ => show (j'.val - 0) / (0 + 1) = j.val; omega
    | ⟨1, _⟩ => show (x.val - 0) / (0 + 1) = x.val; omega
  · intro a
    match a with
    | ⟨0, _⟩ => show 0 ≤ j'.val ∧ (j'.val - 0) % (0 + 1) = 0 ∧ (j'.val - 0) / (0 + 1) < 100000; omega
    | ⟨1, _⟩ => show 0 ≤ x.val ∧ (x.val - 0) % (0 + 1) = 0 ∧ (x.val - 0) / (0 + 1) < 64; omega

/-- A negated mask is above nothing. -/
theorem mask_last (y : EReal) : Ideal.cmpTotal .gt (-⊤ : EReal) y = 0#1 := by
  simp [Ideal.cmpTotal, Ideal.cmp, CmpDirection.ordered]

/-- One element of the kernel's negated matrix. -/
theorem neg_whole (e : FVec Ideal S1024x64 .f32) (q : FVec Ideal S1024x1 .f32) (k : FVec Ideal S100352x64 .f32) (r : Fin 1024) (j : Fin 100352) :
    (Host.negf (Cert.Dist.whole e q k) : FVec Ideal S1024x100352 .f32) (ix2 r j)
      = -(if 100000 ≤ j.val then (⊤ : EReal) else dist (q (ix2 r 0)) (fun x => e (ix2 r x)) (fun x => k (ix2 j x))) := rfl

/-- The two matrices name the same 50 columns in every row: they agree on the first 100000, and the others are last. -/
theorem best_eq (e : FVec Ideal S1024x64 .f32) (k : FVec Ideal S100000x64 .f32) :
    best (Cert.Dist.whole e (sumSq e) (padKeys k))
      = (Host.topK S1024x50 1 (FloatOps.cmpfTotal (F := Ideal) (φ := .f32) .gt) (negD2 e k) Cert.ReferenceIdeal.Gen.sliceFits_S1024x100000_S1024x50).2 := by
  refine Cert.TopK.topK_indices_pad (R := 1024) (n := 100000) (m := 352) (k := 50) (by decide) _
    (Host.negf (Cert.Dist.whole e (sumSq e) (padKeys k))) _ _ _ (fun r j => ?_) (fun r j p => ?_)
  · refine (neg_whole e _ _ r (Fin.castAdd 352 j)).trans (Eq.trans ?_ (negD2_apply e k r j).symm)
    have hj : ¬ 100000 ≤ (Fin.castAdd 352 j).val := Nat.not_le.mpr j.isLt
    rw [if_neg hj, sumSq_apply]
    simp only [padKeys_apply k j _ (Fin.castAdd 352 j) rfl]
  · refine Eq.trans (congrArg (fun z => Ideal.cmpTotal .gt z _) (neg_whole e _ _ r (Fin.natAdd 100000 p))) ?_
    have hp : 100000 ≤ (Fin.natAdd 100000 p).val := Nat.le_add_right _ _
    rw [if_pos hp]
    exact mask_last _

variable (m : (ℓ : Loc nD τ sig) → Buf (Elt Ideal) ℓ) (ρ : Dev nD → PrngReg)

/-- The first result, from the launched arguments. -/
def result0 (c : Dev nD) : FVec Ideal S1024x2 .f32 :=
  head (Run.hid m c) (m ((c : Thread nD τ).loc main_arg7)) (m ((c : Thread nD τ).loc main_arg8))

/-- The second, in the reference's words: the neighbours are those of its own matrix. -/
def result1 (c : Dev nD) : FVec Ideal S1024 .f32 :=
  value (Run.emb m c) (m ((c : Thread nD τ).loc main_arg11)) (m ((c : Thread nD τ).loc main_arg12))
    (Host.topK S1024x50 1 (FloatOps.cmpfTotal (F := Ideal) (φ := .f32) .gt) (negD2 (Run.emb m c) (m ((c : Thread nD τ).loc main_arg11)))
      Cert.ReferenceIdeal.Gen.sliceFits_S1024x100000_S1024x50).2

/-- The launch's array in terms of the launched arguments. -/
theorem matrix (c : Dev nD) : (dats m 0 c).arrAt 3 cfg0.N
    = Dist.whole (Run.emb m c) (sumSq (Run.emb m c)) (padKeys (F := Ideal) (m ((c : Thread nD τ).loc main_arg11))) := by
  have h26 : V m c main_v26 = Run.emb m c := Run.V0_emb m c
  have h29 : V m c main_v29 = sumSq (F := Ideal) (Run.emb m c) := Run.V0_sumSq m c
  have h30 : V m c main_v30 = padKeys (F := Ideal) (m ((c : Thread nD τ).loc main_arg11)) := Run.V0_keys m c
  rw [Dist.final, h26, h29, h30]

/-- The kernel's second result. -/
theorem tail_result1 (c : Dev nD) :
    Pipeline.afterTail₀ cfgs (dats m) 0 (V0 m) [hostOps1, hostOps1_1, hostOps1_2, hostOps1_3] c main_v51 = result1 m c := by
  rw [Run.tail_value, matrix, best_eq]
  rfl

/-- The kernel's run: both results, and the arguments unchanged. -/
theorem run : θ_run defs (onTc (τ := τ) (main (F := Ideal))) ⟨m, fun _ => 0, ρ⟩ (fun r => ∀ c : Dev nD,
      r.2.mem ((c.tc : Thread nD τ).loc main_v21) = result0 m c
      ∧ r.2.mem ((c.tc : Thread nD τ).loc main_v51) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
      ⟨((h.1 c).2 main_v21 (Pipeline.mem_restRefs_of main_v21 (by decide) (by decide))).trans (Run.tail_head m c),
        ((h.1 c).2 main_v51 (Pipeline.mem_restRefs_of main_v51 (by decide) (by decide))).trans (tail_result1 m c), h.2 c⟩)
    (θ_run_and (run_main m ρ) (unchanged m ρ))

end Cert.Best
-- ==== Proof.Reference.lean ====
/-
  The reference's two results are the functions the kernel's are.
-/
module

public import proofs.«01_k».proof.Proof.Host
public import proofs.«01_k».proof.Proof.Block

@[expose] public section

set_option maxRecDepth 8192

noncomputable section

open Idealize.ShloMosaic Idealize.ShloMosaic.TcCoe Idealize.SL.Sem

namespace Cert.Reference

open Cert.ReferenceIdeal Cert.ReferenceIdeal.Value Cert.Host Cert.Block

variable (V : Valuation τ sig (Elt Ideal))

/-- The reference's hidden layer. -/
theorem hid_eq : (res_main_v16 V : FVec Ideal S1024x64 .f32)
    = hidden (F := Ideal) (V (Proc.devRef .tc main_arg0)) (V (Proc.devRef .tc main_arg1)) (V (Proc.devRef .tc main_arg2))
    (V (Proc.devRef .tc main_arg3)) (V (Proc.devRef .tc main_arg4)) (V (Proc.devRef .tc main_arg5)) (V (Proc.devRef .tc main_arg6)) := rfl

/-- Its queries. -/
theorem emb_eq : (res_main_v26 V : FVec Ideal S1024x64 .f32)
    = dense (F := Ideal) (res_main_v16 V) (V (Proc.devRef .tc main_arg9)) (V (Proc.devRef .tc main_arg10)) := rfl

/-- Its neighbours. -/
theorem indices_eq : (res_main_indices V : IVec S1024x50 32)
    = (Host.topK S1024x50 1 (FloatOps.cmpfTotal (F := Ideal) (φ := .f32) .gt) (negD2 (res_main_v26 V) (V (Proc.devRef .tc main_arg11)))
        Gen.sliceFits_S1024x100000_S1024x50).2 := rfl

/-- The indices it looks the keys up at. -/
theorem wrap_keys : (res_main_call2_v5 V : IVec S1024x50x1 32) = wrap (res_main_indices V) := rfl

/-- The indices it looks the values up at. -/
theorem wrap_vals : (res_main_call3_v5 V : IVec S1024x50x1 32) = wrap (res_main_indices V) := rfl

/-- Its queries minus their neighbours. -/
theorem away_eq : (res_main_v46 V : FVec Ideal S1024x50x64 .f32)
    = away (F := Ideal) (res_main_v26 V) (takeKeys (F := Ideal) (V (Proc.devRef .tc main_arg11)) (res_main_indices V)) := rfl

/-- Its weights. -/
theorem weigh_eq : (res_main_v55 V : FVec Ideal S1024x50 .f32)
    = weigh (F := Ideal) (res_main_v46 V) := rfl

/-- Its first result, from the buffers it starts with. -/
def out0 : FVec Ideal S1024x2 .f32 :=
  head (F := Ideal) (res_main_v16 V) (V (Proc.devRef .tc main_arg7)) (V (Proc.devRef .tc main_arg8))

/-- Its second. -/
def out1 : FVec Ideal S1024 .f32 :=
  blend (F := Ideal) (res_main_v55 V) (takeVals (F := Ideal) (V (Proc.devRef .tc main_arg12)) (res_main_indices V))

/-- The second, as the kernel's second result is spelled. -/
theorem out1_eq : out1 V = value (F := Ideal) (res_main_v26 V) (V (Proc.devRef .tc main_arg11)) (V (Proc.devRef .tc main_arg12)) (res_main_indices V) := by
  unfold out1 value
  rw [weigh_eq, away_eq]

/-- The reference's run: both results, and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v21) = out0 (StableHlo.launchContents m c)
      ∧ r.2.mem ((c.tc : Thread nD τ).loc main_v60) = out1 (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1.trans rfl, (h c).2.1.trans rfl, (h c).2.2⟩) (Value.run (F := Ideal) m ρ)

end Cert.Reference
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Best
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference ends with its arguments unchanged and its counters at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2, Idealize.ShloMosaic.sem_eq_zero_of_no_sems (by decide) r.2⟩)
    (Cert.Reference.run m ρ)

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Device `c`'s arguments are the same in the two programs. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

variable {m m' c}

/-- Then so is the hidden layer, -/
theorem hid_agree (h : Agree m m' c) :
    Cert.ReferenceIdeal.Value.res_main_v16 (StableHlo.launchContents m' c) = Cert.Run.hid m c := by
  obtain ⟨h0, h1, h2, h3, h4, h5, h6, -⟩ := h
  refine (Cert.Reference.hid_eq _).trans ?_
  unfold Cert.Run.hid
  exact congr (congr (congr (congr (congr (congr (congrArg (Cert.Host.hidden (F := Ideal)) h0) h1) h2) h3) h4) h5) h6

/-- the queries, -/
theorem emb_agree (h : Agree m m' c) :
    Cert.ReferenceIdeal.Value.res_main_v26 (StableHlo.launchContents m' c) = Cert.Run.emb m c := by
  have hh := hid_agree h
  obtain ⟨-, -, -, -, -, -, -, -, -, h9, h10, -⟩ := h
  refine (Cert.Reference.emb_eq _).trans ?_
  unfold Cert.Run.emb
  exact congr (congr (congrArg (Cert.Host.dense (F := Ideal)) hh) h9) h10

/-- the first result, -/
theorem out0_agree (h : Agree m m' c) : Cert.Reference.out0 (StableHlo.launchContents m' c) = Cert.Best.result0 m c := by
  have hh := hid_agree h
  obtain ⟨-, -, -, -, -, -, -, h7, h8, -⟩ := h
  exact congr (congr (congrArg (Cert.Host.head (F := Ideal)) hh) h7) h8

/-- and the second. -/
theorem out1_agree (h : Agree m m' c) : Cert.Reference.out1 (StableHlo.launchContents m' c) = Cert.Best.result1 m c := by
  have he := emb_agree h
  obtain ⟨-, -, -, -, -, -, -, -, -, -, -, h11, h12⟩ := h
  refine (Cert.Reference.out1_eq _).trans ?_
  have hi := (Cert.Reference.indices_eq (StableHlo.launchContents m' c)).trans
    (congrArg (fun d => (Host.topK Cert.ReferenceIdeal.S1024x50 1 (FloatOps.cmpfTotal (F := Ideal) (φ := .f32) .gt) d
      Cert.ReferenceIdeal.Gen.sliceFits_S1024x100000_S1024x50).2) (congr (congrArg Cert.Block.negD2 he) h11))
  exact congr (congr (congr (congrArg (Cert.Host.value (F := Ideal)) he) h11) h12) hi

end Agree

/-- The kernel and the reference, from equal arguments, end with equal results. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨Cert.Best.result0 m, Cert.Best.result1 m, Cert.Best.run m ρ, ?_⟩
  exact (θ_run Cert.ReferenceIdeal.defs _ _).mono
    (fun _ h c => ⟨(h c).1.trans (out0_agree (hagree c)), (h c).2.1.trans (out1_agree (hagree c)), (h c).2.2⟩)
    (Cert.Reference.run m' ρ')

/-- Everything claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame,
  IdealRules.named_const.statement Cert.KernelIdeal.κ "mask" .f32 0x7149F2CA#32 ⊤ rfl, algebraic⟩

end Cert.Proof

end
